-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S8x128x10 : Shape := ⟨3, ![8, 128, 10]⟩
abbrev S8x10 : Shape := ⟨2, ![8, 10]⟩
abbrev S128x8x10 : Shape := ⟨3, ![128, 8, 10]⟩
abbrev S128x80 : Shape := ⟨2, ![128, 80]⟩
abbrev S1x80 : Shape := ⟨2, ![1, 80]⟩
abbrev S16384x10 : Shape := ⟨2, ![16384, 10]⟩
abbrev S2048x128 : Shape := ⟨2, ![2048, 128]⟩
abbrev S2048x10 : Shape := ⟨2, ![2048, 10]⟩
abbrev S2048x80 : Shape := ⟨2, ![2048, 80]⟩
abbrev S2048 : Shape := ⟨1, ![2048]⟩
abbrev S2048x1 : Shape := ⟨2, ![2048, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S8x128x10, .f32⟩
  | .hbm, ⟨2, _⟩ => ⟨S8x10, .f32⟩
  | .hbm, ⟨3, _⟩ => ⟨S128x8x10, .f32⟩
  | .hbm, ⟨4, _⟩ => ⟨S128x80, .f32⟩
  | .hbm, ⟨5, _⟩ => ⟨S1x80, .f32⟩
  | .hbm, ⟨6, _⟩ => ⟨S16384x10, .f32⟩
  | .local _ .vmem, ⟨0, _⟩ => ⟨S2048x128, .f32⟩
  | .local _ .vmem, ⟨1, _⟩ => ⟨S2048x128, .f32⟩
  | .local _ .vmem, ⟨2, _⟩ => ⟨S128x80, .f32⟩
  | .local _ .vmem, ⟨3, _⟩ => ⟨S1x80, .f32⟩
  | .local _ .vmem, ⟨4, _⟩ => ⟨S2048x10, .f32⟩
  | .local _ .vmem, ⟨5, _⟩ => ⟨S2048x10, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x128 : Shape := ⟨2, ![16384, 128]⟩
abbrev S8x128x10 : Shape := ⟨3, ![8, 128, 10]⟩
abbrev S8x10 : Shape := ⟨2, ![8, 10]⟩
abbrev S8x10x16384 : Shape := ⟨3, ![8, 10, 16384]⟩
abbrev S8x16384x10 : Shape := ⟨3, ![8, 16384, 10]⟩
abbrev S8x1x10 : Shape := ⟨3, ![8, 1, 10]⟩
abbrev S_ : Shape := ⟨0, ![]⟩
abbrev S8x16384 : Shape := ⟨2, ![8, 16384]⟩
abbrev S16384x10 : Shape := ⟨2, ![16384, 10]⟩
abbrev S16384 : Shape := ⟨1, ![16384]⟩
abbrev S16384x1 : Shape := ⟨2, ![16384, 1]⟩
abbrev S16384x8 : Shape := ⟨2, ![16384, 8]⟩
abbrev S16384x8x1 : Shape := ⟨3, ![16384, 8, 1]⟩
abbrev S16384x8x2 : Shape := ⟨3, ![16384, 8, 2]⟩

abbrev nBuf : Space → Nat
  | .hbm => 40
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8x128x10, .f32⟩
  | .hbm, ⟨2, _⟩ => ⟨S8x10, .f32⟩
  | .hbm, ⟨3, _⟩ => ⟨S8x10x16384, .f32⟩
  | .hbm, ⟨4, _⟩ => ⟨S8x16384x10, .f32⟩
  | .hbm, ⟨5, _⟩ => ⟨S8x1x10, .f32⟩
  | .hbm, ⟨6, _⟩ => ⟨S8x16384x10, .f32⟩
  | .hbm, ⟨7, _⟩ => ⟨S8x16384x10, .f32⟩
  | .hbm, ⟨8, _⟩ => ⟨S8x16384x10, .i32⟩
  | .hbm, ⟨9, _⟩ => ⟨S_, .f32⟩
  | .hbm, ⟨10, _⟩ => ⟨S_, .i32⟩
  | .hbm, ⟨11, _⟩ => ⟨S8x16384, .f32⟩
  | .hbm, ⟨12, _⟩ => ⟨S8x16384, .i32⟩
  | .hbm, ⟨13, _⟩ => ⟨S_, .i32⟩
  | .hbm, ⟨14, _⟩ => ⟨S16384x10, .i32⟩
  | .hbm, ⟨15, _⟩ => ⟨S16384, .i32⟩
  | .hbm, ⟨16, _⟩ => ⟨S16384x1, .i32⟩
  | .hbm, ⟨17, _⟩ => ⟨S16384x8, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S_, .i32⟩
  | .hbm, ⟨22, _⟩ => ⟨S16384x1, .i32⟩
  | .hbm, ⟨23, _⟩ => ⟨S16384x1, .i32⟩
  | .hbm, ⟨24, _⟩ => ⟨S16384x1, .i32⟩
  | .hbm, ⟨25, _⟩ => ⟨S_, .i32⟩
  | .hbm, ⟨26, _⟩ => ⟨S16384x8, .i32⟩
  | .hbm, ⟨27, _⟩ => ⟨S16384x8, .i1⟩
  | .hbm, ⟨28, _⟩ => ⟨S_, .i32⟩
  | .hbm, ⟨29, _⟩ => ⟨S16384x8, .i32⟩
  | .hbm, ⟨30, _⟩ => ⟨S16384x8, .i32⟩
  | .hbm, ⟨31, _⟩ => ⟨S16384x8, .i32⟩
  | .hbm, ⟨32, _⟩ => ⟨S16384x8, .i32⟩
  | .hbm, ⟨33, _⟩ => ⟨S16384x8x1, .i32⟩
  | .hbm, ⟨34, _⟩ => ⟨S16384x8x1, .i32⟩
  | .hbm, ⟨35, _⟩ => ⟨S16384x8x2, .i32⟩
  | .hbm, ⟨36, _⟩ => ⟨S_, .i32⟩
  | .hbm, ⟨37, _⟩ => ⟨S16384x8, .i32⟩
  | .hbm, ⟨38, _⟩ => ⟨S16384x10, .i32⟩
  | .hbm, ⟨39, _⟩ => ⟨S16384x10, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Spec.lean ====
/-
  The committee's vote, stated over the extended reals with no program named: eight linear classifiers over ten classes, each voting for
  the first class of largest logit, and the number of votes every class gets.
-/
module

public import Idealize.ShloMosaic.PureOps.Ideal
public import Idealize.ShloMosaic.Lib.Pointwise

@[expose] public section

noncomputable section

open Idealize.ShloMosaic
open scoped Classical

namespace Cert.Committee

/-- Class `c` is the one a row of logits `l` votes for: no logit is larger, and `c` comes first among the classes of which that holds. -/
def IsVote {n : ℕ} (l : Fin n → EReal) (c : Fin n) : Prop :=
  (∀ k, l k ≤ l c) ∧ ∀ x, (∀ k, l k ≤ l x) → c ≤ x

/-- A row votes for at most one class. -/
theorem IsVote.unique {n : ℕ} {l : Fin n → EReal} {c d : Fin n} (hc : IsVote l c) (hd : IsVote l d) : c = d :=
  le_antisymm (hc.2 d hd.1) (hd.2 c hc.1)

/-- The logit member `m` gives class `k` on sample `r`: the sample's features against the class's weights, plus the class's bias. -/
def logit (x : (⟨2, ![16384, 128]⟩ : Shape).Idx → EReal) (W : (⟨3, ![8, 128, 10]⟩ : Shape).Idx → EReal)
    (b : (⟨2, ![8, 10]⟩ : Shape).Idx → EReal) (r : Fin 16384) (m : Fin 8) (k : Fin 10) : EReal :=
  (∑ d : Fin 128, x (ix2 r d) * W (ix3 m d k)) + b (ix2 m k)

/-- How many of the members whose logits on one sample are `l` vote for class `c`. -/
def tally (l : Fin 8 → Fin 10 → EReal) (c : Fin 10) : EReal := ∑ m : Fin 8, if IsVote (l m) c then 1 else 0

/-- The histogram of the committee's votes: for sample `r` and class `c`, the number of members voting for `c`. -/
def histogram (x : (⟨2, ![16384, 128]⟩ : Shape).Idx → EReal) (W : (⟨3, ![8, 128, 10]⟩ : Shape).Idx → EReal)
    (b : (⟨2, ![8, 10]⟩ : Shape).Idx → EReal) (i : (⟨2, ![16384, 10]⟩ : Shape).Idx) : EReal :=
  tally (logit x W b (i 0)) (i 1)

/-- Folding `max` from the value of an all-ones-exponent negative word (−∞) gives the supremum. -/
theorem fold_max_negInf {n : ℕ} (l : Fin n → EReal) :
    Finset.univ.fold max (Ideal.ofBits .f32 0xFF800000#32) l = Finset.univ.sup l := by
  rw [show Ideal.ofBits .f32 0xFF800000#32 = (⊥ : EReal) by simp [Ideal.ofBits, Ideal.ieee]]
  rfl

/-- Folding the signed minimum of words, read as an integer, is folding the minimum of integers. -/
theorem toInt_fold_minsi {ι : Type} (s : Finset ι) (M : BitVec 32) (f : ι → BitVec 32) :
    (s.fold IntOp.minsi M f).toInt = s.fold min M.toInt fun i => (f i).toInt :=
  (Finset.fold_hom (op := IntOp.minsi) (op' := min) (m := BitVec.toInt) fun a b => by
    unfold IntOp.minsi
    by_cases h : a.toInt < b.toInt
    · simp [BitVec.slt, h, min_eq_left h.le]
    · simp [BitVec.slt, h, min_eq_right (not_lt.1 h)]).symm

/-- The word test a member's ballot makes of class `c` — the least class whose logit reaches the row's maximum, 10 standing for the classes that
    do not reach it — holds exactly when the row votes for `c`. -/
theorem ballot_word (l : Fin 10 → EReal) (c : Fin 10) :
    BitVec.ofNat 32 c.val = Finset.univ.fold IntOp.minsi 2147483647#32
        (fun x : Fin 10 => if Finset.univ.fold max (Ideal.ofBits .f32 0xFF800000#32) l ≤ l x then BitVec.ofNat 32 x.val else 10#32)
      ↔ IsVote l c := by
  have small : ∀ k : Fin 10, (BitVec.ofNat 32 k.val).toInt = k.val := by decide
  rw [fold_max_negInf, ← BitVec.toInt_inj, toInt_fold_minsi, small, le_antisymm_iff, Finset.le_fold_min, Finset.fold_min_le]
  have top : ∀ x, Finset.univ.sup l ≤ l x ↔ ∀ k, l k ≤ l x := fun x => by simp
  simp only [top, Finset.mem_univ, true_and, forall_const]
  have e10 : (10#32 : BitVec 32).toInt = 10 := by decide
  have eM : (2147483647#32 : BitVec 32).toInt = 2147483647 := by decide
  constructor
  · rintro ⟨⟨-, h1⟩, h2⟩
    have h2' : ∃ x : Fin 10, (∀ k, l k ≤ l x) ∧ x.val ≤ c.val := by
      rcases h2 with h2 | ⟨x, hx⟩
      · rw [eM] at h2; omega
      · by_cases t : ∀ k, l k ≤ l x
        · rw [if_pos t, small] at hx; exact ⟨x, t, by omega⟩
        · rw [if_neg t, e10] at hx; omega
    have low : ∀ x : Fin 10, (∀ k, l k ≤ l x) → c ≤ x := fun x t => by
      have := h1 x
      rw [if_pos t, small] at this
      exact Fin.le_def.2 (by omega)
    obtain ⟨x, t, hx⟩ := h2'
    obtain rfl : x = c := le_antisymm (Fin.le_def.2 hx) (low x t)
    exact ⟨t, low⟩
  · rintro ⟨t, low⟩
    refine ⟨⟨by rw [eM]; omega, fun x => ?_⟩, Or.inr ⟨c, by rw [if_pos t, small]⟩⟩
    by_cases tx : ∀ k, l k ≤ l x
    · rw [if_pos tx, small]; have := Fin.le_def.1 (low x tx); omega
    · rw [if_neg tx, e10]; omega

end Cert.Committee
-- ==== Proof.KernelBlock.lean ====
/-
  What one point of the kernel's grid computes: from 2048 samples' features, the 80 weight columns and the 80 biases, the number of votes each
  class gets on each of those samples.
-/
module

public import proofs.«01_k».proof.Proof.Gen.KernelIdeal.Value
public import proofs.«01_k».proof.Proof.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped Classical

namespace Cert.KernelIdeal.Block

open Cert.KernelIdeal Cert.KernelIdeal.Gen Cert.Committee

/-- One member's ballots on a block: the member's ten logits are columns `o … o + 9` of the block's logits `L`; entry `(r, c)` is 1 when `c` is
    the least class whose logit reaches the maximum of row `r`, and 0 otherwise. -/
def ballot (o : ℕ) (h : S2048x80.Slices ![0, o] S2048x10) (L : FVec Ideal S2048x80 .f32) : FVec Ideal S2048x10 .f32 :=
  let cls := iota .tc S2048x10 32 [1] iota_S2048x10_d1_w32
  let own := extractStridedSlice S2048x10 ![0, o] L h
  let best := multiReduction .maximumf [1] S2048 own 0xFF800000#32 reduces_S2048x10_S2048 (.inl rfl) rfl
  let reach := cmpf .oge own (broadcastTo S2048x10 (shapeCast S2048x1 best shapeCasts_S2048_S2048x1) broadcasts_S2048x1_S2048x10)
  let first := multiReductionI .minsi [1] S2048 (select reach cls (broadcast S2048x10 10#32)) 2147483647#32 reduces_S2048x10_S2048 rfl
  sitofp .f32 (extui 32 (cmpi .eq cls (broadcastTo S2048x10 (shapeCast S2048x1 first shapeCasts_S2048_S2048x1) broadcasts_S2048x1_S2048x10)) natLt_1_32)

/-- A one-bit word widened and read as a number is 1 or 0. -/
theorem sitofp_bit (p : Prop) [Decidable p] (w : BitVec 1) (h : w = 1#1 ↔ p) :
    FloatOps.sitofp (F := Ideal) FTy.f32 (BitVec.setWidth 32 w) = if p then (1 : EReal) else 0 := by
  show (((BitVec.setWidth 32 w).toInt : ℝ) : EReal) = _
  by_cases hp : p
  · rw [h.2 hp, if_pos hp]; simp
  · have hw : w = 0#1 := by
      have : ∀ v : BitVec 1, v ≠ 1#1 → v = 0#1 := by decide
      exact this w fun e => hp (h.1 e)
    rw [hw, if_neg hp]; simp

/-- The comparison of two words for equality gives the bit 1 exactly when they are equal. -/
theorem cmpi_eq_bit (a b : BitVec 32) : IntOp.cmpi .eq a b = 1#1 ↔ a = b := by
  by_cases h : a = b
  · simp [IntOp.cmpi, h]
  · have e : (a == b) = false := beq_false_of_ne h
    simp [IntOp.cmpi, e, h]

/-- Entry `(r, c)` of a member's ballots is 1 exactly when the member's logits on sample `r` vote for class `c`. -/
theorem ballot_apply (o : ℕ) (ho : o + 10 ≤ 80) (h : S2048x80.Slices ![0, o] S2048x10) (L : FVec Ideal S2048x80 .f32) (r : Fin 2048) (c : Fin 10) :
    ballot o h L (ix2 r c)
      = if IsVote (fun k : Fin 10 => L (ix2 r (⟨o + k.val, by omega⟩ : Fin 80))) c then 1 else 0 := by
  pointwise [ballot]
  exact sitofp_bit _ _ ((cmpi_eq_bit _ _).trans (ballot_word _ c))

variable (x0 : Vec Ideal S2048x128 .f32) (x1 : Vec Ideal S128x80 .f32) (x2 : Vec Ideal S1x80 .f32)

/-- The block's logits: features against a weight column, plus that column's bias. -/
theorem logits_apply (r : Fin 2048) (k : Fin 80) :
    k0_pay2 x0 x1 x2 (ix2 r k) = (∑ d : Fin 128, x0 (ix2 r d) * x1 (ix2 d k)) + x2 (ix2 0 k) := by
  pointwise [k0_pay2]

/-- Members 0 and 1's ballots added to zero. -/
theorem members01 :
    k0_pay3 x0 x1 x2
      = addf (addf (broadcast S2048x10 (Scalar.ofBits .f32 0x00000000#32)) (ballot 0 slices_S2048x80_o0_0_S2048x10 (k0_pay2 x0 x1 x2)))
          (ballot 10 slices_S2048x80_o0_10_S2048x10 (k0_pay2 x0 x1 x2)) := rfl

/-- Members 2, 3 and 4's ballots added to the running count. -/
theorem members234 (w : FVec Ideal S2048x10 .f32) :
    k0_pay5 (k0_pay2 x0 x1 x2) (iota .tc S2048x10 32 [1] iota_S2048x10_d1_w32) w (k0_pay4 x0 x1 x2) 10#32
      = addf (addf (addf w (ballot 20 slices_S2048x80_o0_20_S2048x10 (k0_pay2 x0 x1 x2)))
          (ballot 30 slices_S2048x80_o0_30_S2048x10 (k0_pay2 x0 x1 x2))) (ballot 40 slices_S2048x80_o0_40_S2048x10 (k0_pay2 x0 x1 x2)) := rfl

/-- Member 5's ballots. -/
theorem member5 (L : FVec Ideal S2048x80 .f32) :
    k0_pay6 L (iota .tc S2048x10 32 [1] iota_S2048x10_d1_w32) = ballot 50 slices_S2048x80_o0_50_S2048x10 L := rfl

/-- Members 5, 6 and 7's ballots added to the running count. -/
theorem members567 (L : FVec Ideal S2048x80 .f32) (w z : FVec Ideal S2048x10 .f32) :
    k0_pay1 L (iota .tc S2048x10 32 [1] iota_S2048x10_d1_w32) w z
      = addf (addf (addf w z) (ballot 60 slices_S2048x80_o0_60_S2048x10 L)) (ballot 70 slices_S2048x80_o0_70_S2048x10 L) := rfl

/-- The block written at one grid point: the eight members' ballots, added in order to zero. -/
theorem out_eq :
    out0_3 x0 x1 x2
      = let L := k0_pay2 x0 x1 x2
        addf (addf (addf (addf (addf (addf (addf (addf (broadcast S2048x10 (Scalar.ofBits .f32 0x00000000#32))
          (ballot 0 slices_S2048x80_o0_0_S2048x10 L)) (ballot 10 slices_S2048x80_o0_10_S2048x10 L))
          (ballot 20 slices_S2048x80_o0_20_S2048x10 L)) (ballot 30 slices_S2048x80_o0_30_S2048x10 L))
          (ballot 40 slices_S2048x80_o0_40_S2048x10 L)) (ballot 50 slices_S2048x80_o0_50_S2048x10 L))
          (ballot 60 slices_S2048x80_o0_60_S2048x10 L)) (ballot 70 slices_S2048x80_o0_70_S2048x10 L) := by
  frame_out
  have h8 : k0_pay8 x0 x1 x2 = k0_pay2 x0 x1 x2 := by unfold k0_pay8; frame_out
  have h7 : k0_pay7 x0 x1 x2 = iota .tc S2048x10 32 [1] iota_S2048x10_d1_w32 := rfl
  rw [h8, h7, members234, member5, members567, members01]

/-- Entry `(r, c)` of the block written at one grid point: how many members vote for class `c` on the block's sample `r`, member `m`'s logits read
    from weight columns `10 m … 10 m + 9`. -/
theorem out_apply (r : Fin 2048) (c : Fin 10) :
    out0_3 x0 x1 x2 (ix2 r c)
      = tally (fun m k => (∑ d : Fin 128, x0 (ix2 r d) * x1 (ix2 d (⟨10 * m.val + k.val, by omega⟩ : Fin 80)))
          + x2 (ix2 0 (⟨10 * m.val + k.val, by omega⟩ : Fin 80))) c := by
  rw [out_eq]
  unfold tally
  rw [Fin.sum_univ_eight]
  show (((((((((_ : EReal) + _) + _) + _) + _) + _) + _) + _) + _) = _
  rw [ballot_apply 0 (by omega), ballot_apply 10 (by omega), ballot_apply 20 (by omega), ballot_apply 30 (by omega), ballot_apply 40 (by omega),
    ballot_apply 50 (by omega), ballot_apply 60 (by omega), ballot_apply 70 (by omega)]
  simp only [logits_apply]
  rw [show broadcast S2048x10 (Scalar.ofBits (F := Ideal) .f32 0x00000000#32) (ix2 r c) = (0 : EReal) by pointwise []]
  rw [zero_add]
  rfl

end Cert.KernelIdeal.Block
-- ==== Proof.KernelArray.lean ====
/-
  What the kernel's result array holds after the run: the histogram of the committee's votes on the kernel's arguments, all 16384 samples.
-/
module

public import proofs.«01_k».proof.Proof.KernelBlock

@[expose] public section

set_option maxRecDepth 16384

noncomputable section

open Idealize.ShloMosaic Idealize.ShloMosaic.TcCoe Idealize.SL.Sem

namespace Cert.KernelIdeal.Array

open Cert.KernelIdeal Cert.KernelIdeal.Gen Cert.Committee

variable (m : (ℓ : Loc nD τ sig) → Buf (Elt Ideal) ℓ) (ρ : Dev nD → PrngReg)

/-- The weight matrix the kernel reads holds member `q`'s weights for class `k` in column `10 q + k`. -/
theorem weights (c : Dev nD) (d : Fin 128) (q : Fin 8) (k : Fin 10) :
    (V m c main_v1 : S128x80.Idx → EReal) (ix2 d (⟨10 * q.val + k.val, by omega⟩ : Fin 80))
      = (m ((c : Thread nD τ).loc main_arg1) : S8x128x10.Idx → EReal) (ix3 q d k) := by
  have e : (V m c main_v1 : S128x80.Idx → EReal)
      = shapeCast S128x80 (transpose S128x8x10 [1, 0, 2] (m ((c : Thread nD τ).loc main_arg1) : S8x128x10.Idx → EReal)
          transposes_S8x128x10_S128x8x10_1_0_2) shapeCasts_S128x8x10_S128x80 := by
    unfold V hostOps0
    after_results
    rfl
  rw [e]
  pointwise []

/-- Eight rows of ten laid end to end: column `10 q + k` of the one row is entry `(q, k)`. -/
theorem flat_row (v : S8x10.Idx → EReal) (q : Fin 8) (k : Fin 10) :
    shapeCast S1x80 v shapeCasts_S8x10_S1x80 (ix2 0 (⟨10 * q.val + k.val, by omega⟩ : Fin 80)) = v (ix2 q k) := by
  pointwise []

/-- The bias row the kernel reads holds member `q`'s bias for class `k` in column `10 q + k`. -/
theorem biases (c : Dev nD) (q : Fin 8) (k : Fin 10) :
    (V m c main_v2 : S1x80.Idx → EReal) (ix2 0 (⟨10 * q.val + k.val, by omega⟩ : Fin 80))
      = (m ((c : Thread nD τ).loc main_arg2) : S8x10.Idx → EReal) (ix2 q k) := by
  have e : (V m c main_v2 : S1x80.Idx → EReal)
      = shapeCast S1x80 (m ((c : Thread nD τ).loc main_arg2) : S8x10.Idx → EReal) shapeCasts_S8x10_S1x80 := by
    unfold V hostOps0
    after_results
    rfl
  rw [e]
  exact flat_row _ q k

/-- Where the windows' blocks lie: at point `t` the samples' and the result's block is number `t` down the rows, and the weights and the biases are
    read whole. -/
theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 := by decide +kernel

/-- The kernel's result array after the run is the histogram of the votes. -/
theorem final (c : Dev nD) :
    (dats m 0 c).arrAt 3 cfg0.N
      = histogram (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, k, rfl⟩ : ∃ (r : Fin 2048) (k : Fin 10), y = ix2 r k := ⟨y 0, y 1, (ix2_eta y).symm⟩
  rw [Block.out_apply]
  have hr : 2048 * t.val + r.val < 16384 := by
    have : t.val < 8 := t.isLt
    omega
  have e0 : ∀ d : Fin 128, (win0_0.blk t).view.emb (ix2 r d) = ix2 (⟨2048 * t.val + r.val, hr⟩ : Fin 16384) d := fun d => by
    blk_ext [index0 t]
    all_goals omega
  have e1 : ∀ (d : Fin 128) (k : Fin 80), (win0_1.blk t).view.emb (ix2 d k) = ix2 d k := fun d k => by
    blk_ext [index1 t]
  have e2 : ∀ (k : Fin 80), (win0_2.blk t).view.emb (ix2 0 k) = ix2 (0 : Fin 1) k := fun k => by
    blk_ext [index2 t]
  have e3 : (win0_3.blk t).view.emb (ix2 r k) = ix2 (⟨2048 * t.val + r.val, hr⟩ : Fin 16384) k := by
    blk_ext [index3 t]
    all_goals omega
  have feat : ∀ d : Fin 128, iblk m c 0 t (ix2 r d)
      = (m ((c : Thread nD τ).loc main_arg0) : S16384x128.Idx → EReal) (ix2 (⟨2048 * t.val + r.val, hr⟩ : Fin 16384) d) := fun d => by
    rw [← V_main_arg0 m c]
    exact congrArg (V m c main_arg0 : S16384x128.Idx → EReal) (e0 d)
  have wgt : ∀ (d : Fin 128) (q : Fin 8) (k : Fin 10), iblk m c 1 t (ix2 d (⟨10 * q.val + k.val, by omega⟩ : Fin 80))
      = (m ((c : Thread nD τ).loc main_arg1) : S8x128x10.Idx → EReal) (ix3 q d k) := fun d q k => by
    rw [← weights m c d q k]
    exact congrArg (V m c main_v1 : S128x80.Idx → EReal) (e1 d _)
  have bia : ∀ (q : Fin 8) (k : Fin 10), iblk m c 2 t (ix2 0 (⟨10 * q.val + k.val, by omega⟩ : Fin 80))
      = (m ((c : Thread nD τ).loc main_arg2) : S8x10.Idx → EReal) (ix2 q k) := fun q k => by
    rw [← biases m c q k]
    exact congrArg (V m c main_v2 : S1x80.Idx → EReal) (e2 _)
  simp only [feat, wgt, bia]
  rw [e3]
  rfl

/-- The kernel's run: the result array at the histogram of the votes, the arguments as they were. -/
theorem run : θ_run defs (onTc (τ := τ) (main (F := Ideal))) ⟨m, fun _ => 0, ρ⟩ fun r => ∀ c : Dev nD,
      r.2.mem ((c : Thread nD τ).loc main_v3)
          = histogram (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Array
-- ==== Proof.RefRun.lean ====
/-
  The run of the reference program: it terminates, every counter back at zero, and the result buffer holds `Ref.out` of the arguments, a
  composition of the program's operations in four stages — the logits, the votes, the index pairs, the counts.
-/
module

public import proofs.«01_k».proof.Proof.Gen.ReferenceIdeal
public import Idealize.ShloMosaic.Lib.StableHlo.Run
public import Idealize.ShloMosaic.Lib.Quiescent

@[expose] public section

noncomputable section

open Idealize.ShloMosaic Idealize.ShloMosaic.TcCoe Idealize.ShloMosaic.StableHlo Idealize.SL.Sem

namespace Cert.ReferenceIdeal.Ref

open Cert.ReferenceIdeal Cert.ReferenceIdeal.Gen

variable {F : FTy → Type} [FloatOps F]

/-- The logits of every member on every sample. -/
def logits (x : FVec F S16384x128 .f32) (W : FVec F S8x128x10 .f32) (b : FVec F S8x10 .f32) : FVec F S8x16384x10 .f32 :=
  addf (transpose S8x16384x10 [0, 2, 1] (Host.dotGeneral dot_S8x128x10_S16384x128_S8x10x16384_1_1_02_0_n_n none W x) transposes_S8x10x16384_S8x16384x10_0_2_1)
    (broadcastInDim S8x16384x10 ![0, 1, 2] bcast_S8x1x10_S8x16384x10_0_1_2 (broadcastInDim S8x1x10 ![0, 2] bcast_S8x10_S8x1x10_0_2 b))

/-- Every member's vote on every sample, the arg-max of its logits over the classes. -/
def preds (L : FVec F S8x16384x10 .f32) : IVec S8x16384 32 := fun j =>
  (Host.argReduce reducer_argmax_f32_i32 L (iotaInDim S8x16384x10 32 2) (constant S_ .f32 0xFF800000#32) (constantI S_ 32 0#32)
    reducesTo_S8x16384x10_S8x16384_d2 h_S_ j).2

/-- The sample numbers as a column, an index below zero counted from the end. -/
def rows : IVec S16384x1 32 :=
  let n := broadcastInDim S16384x1 ![0] bcast_S16384_S16384x1_0 (iotaInDim S16384 32 0)
  select (cmpi .slt n (broadcastInDim S16384x1 ![] bcast_S_S16384x1 (constantI S_ 32 0#32)))
    (addi n (broadcastInDim S16384x1 ![] bcast_S_S16384x1 (constantI S_ 32 16384#32))) n

/-- The votes sample by sample, a class below zero counted from the end. -/
def classes (P : IVec S8x16384 32) : IVec S16384x8 32 :=
  let n := transpose S16384x8 [1, 0] P transposes_S8x16384_S16384x8_1_0
  select (cmpi .slt n (broadcastInDim S16384x8 ![] bcast_S_S16384x8 (constantI S_ 32 0#32)))
    (addi n (broadcastInDim S16384x8 ![] bcast_S_S16384x8 (constantI S_ 32 10#32))) n

/-- Every vote's (sample, class) pair. -/
def pairs (P : IVec S8x16384 32) : IVec S16384x8x2 32 :=
  concatenate S16384x8x2 2
    [⟨S16384x8x1, broadcastInDim S16384x8x1 ![0, 1] bcast_S16384x8_S16384x8x1_0_1
        (broadcastInDim S16384x8 ![0, 1] bcast_S16384x1_S16384x8_0_1 rows)⟩,
      ⟨S16384x8x1, broadcastInDim S16384x8x1 ![0, 1] bcast_S16384x8_S16384x8x1_0_1 (classes P)⟩]
    concatenates_S16384x8x1_S16384x8x1_S16384x8x2_d2

/-- One added at every pair, from zero everywhere. -/
def counts (P : IVec S8x16384 32) : IVec S16384x10 32 :=
  Host.scatter scatter_S16384x10_S16384x8x2_S16384x8_n_01_01_2 IntOp.addi
    (broadcastInDim S16384x10 ![] bcast_S_S16384x10 (constantI S_ 32 0#32)) (pairs P)
    (broadcastInDim S16384x8 ![] bcast_S_S16384x8 (constantI S_ 32 1#32))

/-- What the program computes of its arguments. -/
def out (x : FVec F S16384x128 .f32) (W : FVec F S8x128x10 .f32) (b : FVec F S8x10 .f32) : FVec F S16384x10 .f32 :=
  sitofp .f32 (counts (preds (logits x W b)))

/-- The program's operations, in order. -/
abbrev ops : List (HloOp τ sig (Elt F)) :=
  [
    binary main_arg1 main_arg0 main_v0 ((fun l r => Host.dotGeneral dot_S8x128x10_S16384x128_S8x10x16384_1_1_02_0_n_n none l r) : (⟨S8x128x10, .f32⟩ : BufTy).Contents (Elt F) → (⟨S16384x128, .f32⟩ : BufTy).Contents (Elt F) → (⟨S8x10x16384, .f32⟩ : BufTy).Contents (Elt F)),
    unary main_v0 main_v1 ((transpose S8x16384x10 [0, 2, 1] · transposes_S8x10x16384_S8x16384x10_0_2_1) : (⟨S8x10x16384, .f32⟩ : BufTy).Contents (Elt F) → (⟨S8x16384x10, .f32⟩ : BufTy).Contents (Elt F)),
    unary main_arg2 main_v2 (broadcastInDim S8x1x10 ![0, 2] bcast_S8x10_S8x1x10_0_2 : (⟨S8x10, .f32⟩ : BufTy).Contents (Elt F) → (⟨S8x1x10, .f32⟩ : BufTy).Contents (Elt F)),
    unary main_v2 main_v3 (broadcastInDim S8x16384x10 ![0, 1, 2] bcast_S8x1x10_S8x16384x10_0_1_2 : (⟨S8x1x10, .f32⟩ : BufTy).Contents (Elt F) → (⟨S8x16384x10, .f32⟩ : BufTy).Contents (Elt F)),
    binary main_v1 main_v3 main_v4 (addf : (⟨S8x16384x10, .f32⟩ : BufTy).Contents (Elt F) → (⟨S8x16384x10, .f32⟩ : BufTy).Contents (Elt F) → (⟨S8x16384x10, .f32⟩ : BufTy).Contents (Elt F)),
    TRef.nullary main_call0.v0 (iotaInDim S8x16384x10 32 2),
    TRef.nullary main_call0.cst (constant S_ .f32 0xFF800000#32),
    TRef.nullary main_call0.c (constantI S_ 32 0#32),
    TRef.quaternary (.of main_v4) main_call0.v0 main_call0.cst main_call0.c main_call0.v1_0 (fun x y u v j => (Host.argReduce reducer_argmax_f32_i32 x y u v reducesTo_S8x16384x10_S8x16384_d2 h_S_ j).1),
    TRef.quaternary (.of main_v4) main_call0.v0 main_call0.cst main_call0.c main_call0.v1_1 (fun x y u v j => (Host.argReduce reducer_argmax_f32_i32 x y u v reducesTo_S8x16384x10_S8x16384_d2 h_S_ j).2),
    nullary main_c (constantI S_ 32 0#32),
    unary main_c main_v6 (broadcastInDim S16384x10 ![] bcast_S_S16384x10 : (⟨S_, .i32⟩ : BufTy).Contents (Elt F) → (⟨S16384x10, .i32⟩ : BufTy).Contents (Elt F)),
    nullary main_v7 (iotaInDim S16384 32 0),
    unary main_v7 main_v8 (broadcastInDim S16384x1 ![0] bcast_S16384_S16384x1_0 : (⟨S16384, .i32⟩ : BufTy).Contents (Elt F) → (⟨S16384x1, .i32⟩ : BufTy).Contents (Elt F)),
    unary main_v5 main_v9 ((transpose S16384x8 [1, 0] · transposes_S8x16384_S16384x8_1_0) : (⟨S8x16384, .i32⟩ : BufTy).Contents (Elt F) → (⟨S16384x8, .i32⟩ : BufTy).Contents (Elt F)),
    nullary main_c_0 (constantI S_ 32 0#32),
    unary main_c_0 main_v10 (broadcastInDim S16384x1 ![] bcast_S_S16384x1 : (⟨S_, .i32⟩ : BufTy).Contents (Elt F) → (⟨S16384x1, .i32⟩ : BufTy).Contents (Elt F)),
    binary main_v8 main_v10 main_v11 (cmpi .slt : (⟨S16384x1, .i32⟩ : BufTy).Contents (Elt F) → (⟨S16384x1, .i32⟩ : BufTy).Contents (Elt F) → (⟨S16384x1, .i1⟩ : BufTy).Contents (Elt F)),
    nullary main_c_1 (constantI S_ 32 16384#32),
    unary main_c_1 main_v12 (broadcastInDim S16384x1 ![] bcast_S_S16384x1 : (⟨S_, .i32⟩ : BufTy).Contents (Elt F) → (⟨S16384x1, .i32⟩ : BufTy).Contents (Elt F)),
    binary main_v8 main_v12 main_v13 (addi : (⟨S16384x1, .i32⟩ : BufTy).Contents (Elt F) → (⟨S16384x1, .i32⟩ : BufTy).Contents (Elt F) → (⟨S16384x1, .i32⟩ : BufTy).Contents (Elt F)),
    ternary main_v11 main_v13 main_v8 main_v14 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_2 (constantI S_ 32 0#32),
    unary main_c_2 main_v15 (broadcastInDim S16384x8 ![] bcast_S_S16384x8 : (⟨S_, .i32⟩ : BufTy).Contents (Elt F) → (⟨S16384x8, .i32⟩ : BufTy).Contents (Elt F)),
    binary main_v9 main_v15 main_v16 (cmpi .slt : (⟨S16384x8, .i32⟩ : BufTy).Contents (Elt F) → (⟨S16384x8, .i32⟩ : BufTy).Contents (Elt F) → (⟨S16384x8, .i1⟩ : BufTy).Contents (Elt F)),
    nullary main_c_3 (constantI S_ 32 10#32),
    unary main_c_3 main_v17 (broadcastInDim S16384x8 ![] bcast_S_S16384x8 : (⟨S_, .i32⟩ : BufTy).Contents (Elt F) → (⟨S16384x8, .i32⟩ : BufTy).Contents (Elt F)),
    binary main_v9 main_v17 main_v18 (addi : (⟨S16384x8, .i32⟩ : BufTy).Contents (Elt F) → (⟨S16384x8, .i32⟩ : BufTy).Contents (Elt F) → (⟨S16384x8, .i32⟩ : BufTy).Contents (Elt F)),
    ternary main_v16 main_v18 main_v9 main_v19 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F)),
    unary main_v14 main_v20 (broadcastInDim S16384x8 ![0, 1] bcast_S16384x1_S16384x8_0_1 : (⟨S16384x1, .i32⟩ : BufTy).Contents (Elt F) → (⟨S16384x8, .i32⟩ : BufTy).Contents (Elt F)),
    unary main_v20 main_v21 (broadcastInDim S16384x8x1 ![0, 1] bcast_S16384x8_S16384x8x1_0_1 : (⟨S16384x8, .i32⟩ : BufTy).Contents (Elt F) → (⟨S16384x8x1, .i32⟩ : BufTy).Contents (Elt F)),
    unary main_v19 main_v22 (broadcastInDim S16384x8x1 ![0, 1] bcast_S16384x8_S16384x8x1_0_1 : (⟨S16384x8, .i32⟩ : BufTy).Contents (Elt F) → (⟨S16384x8x1, .i32⟩ : BufTy).Contents (Elt F)),
    binary main_v21 main_v22 main_v23 ((fun a b => concatenate S16384x8x2 2 [⟨S16384x8x1, a⟩, ⟨S16384x8x1, b⟩] concatenates_S16384x8x1_S16384x8x1_S16384x8x2_d2) : (⟨S16384x8x1, .i32⟩ : BufTy).Contents (Elt F) → (⟨S16384x8x1, .i32⟩ : BufTy).Contents (Elt F) → (⟨S16384x8x2, .i32⟩ : BufTy).Contents (Elt F)),
    nullary main_c_4 (constantI S_ 32 1#32),
    unary main_c_4 main_v24 (broadcastInDim S16384x8 ![] bcast_S_S16384x8 : (⟨S_, .i32⟩ : BufTy).Contents (Elt F) → (⟨S16384x8, .i32⟩ : BufTy).Contents (Elt F)),
    ternary main_v6 main_v23 main_v24 main_v25 ((fun x i u => Host.scatter scatter_S16384x10_S16384x8x2_S16384x8_n_01_01_2 IntOp.addi x i u) : (⟨S16384x10, .i32⟩ : BufTy).Contents (Elt F) → (⟨S16384x8x2, .i32⟩ : BufTy).Contents (Elt F) → (⟨S16384x8, .i32⟩ : BufTy).Contents (Elt F) → (⟨S16384x10, .i32⟩ : BufTy).Contents (Elt F)),
    unary main_v25 main_v26 (sitofp .f32 : (⟨S16384x10, .i32⟩ : BufTy).Contents (Elt F) → (⟨S16384x10, .f32⟩ : BufTy).Contents (Elt F)) ]

/-- The program is its operations run in order. -/
theorem main_eq (c : Dev nD) : main (F := F) c = seq ops := rfl

/-- Every operation touches buffers of the TensorCore's references only. -/
theorem ops_sub : (ops : List (HloOp τ sig (Elt F))).Forall fun op => op.bufs ⊆ tcRefs τ sig :=
  ⟨binary_bufs_sub .., unary_bufs_sub .., unary_bufs_sub .., unary_bufs_sub .., binary_bufs_sub .., nullary_bufs_sub .., nullary_bufs_sub
    .., nullary_bufs_sub .., quaternary_bufs_sub .., quaternary_bufs_sub .., nullary_bufs_sub .., unary_bufs_sub .., nullary_bufs_sub ..,
    unary_bufs_sub .., unary_bufs_sub .., nullary_bufs_sub .., unary_bufs_sub .., binary_bufs_sub .., nullary_bufs_sub .., unary_bufs_sub
    .., binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub .., binary_bufs_sub ..,
    nullary_bufs_sub .., unary_bufs_sub .., ternary_bufs_sub .., unary_bufs_sub ..⟩

/-- Nothing is scoped in this program. -/
theorem scopedRefs_eq : (Finset.univ.filter fun b : Ref sig .tc => b.isScoped) = ∅ := by decide
theorem scopedSems_eq : (Finset.univ.filter fun sm : SemLoc sig => sm.isScoped .tc) = ∅ := by decide

/-- After the operations the result buffer holds `out` of what the argument buffers held. -/
theorem out_eq (V : Valuation τ sig (Elt F)) :
    after ops V (main_v26 : DevRef τ sig)
      = out (V (main_arg0 : DevRef τ sig)) (V (main_arg1 : DevRef τ sig)) (V (main_arg2 : DevRef τ sig)) := by
  after_results
  rfl

/-- No operation writes an argument buffer. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- From any memory with zero counters every execution of the program terminates, with the result buffer at `out` of the arguments and the argument
    buffers as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v26).trans (out_eq _), (h c main_arg0).trans (arg0_eq _), (h c main_arg1).trans (arg1_eq _),
      (h c main_arg2).trans (arg2_eq _)⟩)
    (run_seq scopedRefs_eq scopedSems_eq defs main (fun _ => ops) main_eq (fun _ => ops_sub) m ρ)

/-- The program keeps its arguments and leaves every counter at zero (it has none). -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems rfl r.2⟩) (run m ρ)

end Cert.ReferenceIdeal.Ref

end
-- ==== Proof.Argmax.lean ====
/-
  The arg-max a reference takes along an axis, as a left fold over (value, index) pairs: it ends at the first index of largest value.
-/
module

public import proofs.«01_k».proof.Proof.RefRun
public import proofs.«01_k».proof.Proof.Spec
public import Idealize.ShloMosaic.Lib.WordCmp

@[expose] public section

noncomputable section

open Idealize.ShloMosaic
open scoped Classical

namespace Cert.ReferenceIdeal.Argmax

open Cert.ReferenceIdeal Cert.ReferenceIdeal.Gen Cert.Committee

/-- One step of the fold, over values in a linear order: a strictly larger value wins, and on equal values the lower index. -/
theorem step (a b : EReal) (i j : BitVec 32) :
    reducer_argmax_f32_i32 (F := Ideal) (a, i) (b, j)
      = (if b < a then a else b, if b < a ∨ (a = b ∧ i.slt j = true) then i else j) := by
  have gt : FloatOps.cmpf (F := Ideal) (φ := .f32) .ogt a b = BitVec.ofBool (decide (b < a)) := rfl
  have ne : FloatOps.cmpf (F := Ideal) (φ := .f32) .une a a = BitVec.ofBool false := by
    show BitVec.ofBool (decide (a ≠ a)) = _
    simp
  have eq : FloatOps.cmpf (F := Ideal) (φ := .f32) .oeq a b = BitVec.ofBool (decide (a = b)) := rfl
  have lt : IntOp.cmpi .slt i j = BitVec.ofBool (i.slt j) := rfl
  unfold reducer_argmax_f32_i32
  simp only [gt, ne, eq, lt, WordCmp.ori_ofBool, WordCmp.andi_ofBool, Scalar.select, WordCmp.ofBool_eq_one_iff']
  simp

/-- From a pair standing for class `i`, over a list of classes that rises and lies above `i`, the fold ends at the pair of a class `c` among these
    whose value is the largest and which comes before every other class of that value. -/
theorem fold_from {n : ℕ} (hn : n < 2 ^ 31) (l : Fin n → EReal) : ∀ (L : List (Fin n)) (i : Fin n), (i :: L).Pairwise (· < ·) →
    ∃ c ∈ i :: L, (∀ k ∈ i :: L, l k ≤ l c) ∧ (∀ k ∈ i :: L, k < c → l k < l c)
      ∧ (L.map fun k => (l k, BitVec.ofNat 32 k.val)).foldl (reducer_argmax_f32_i32 (F := Ideal)) (l i, BitVec.ofNat 32 i.val)
          = (l c, BitVec.ofNat 32 c.val)
  | [], i, _ => ⟨i, by simp, by simp, by simp, rfl⟩
  | j :: L, i, h => by
    obtain ⟨h1, h2⟩ := List.pairwise_cons.1 h
    have hij : i < j := h1 j (by simp)
    have hlt : (BitVec.ofNat 32 i.val).slt (BitVec.ofNat 32 j.val) = true := by
      rw [BitVec.slt_iff_toInt_lt, WordCmp.toInt_ofNat_of_lt (by omega), WordCmp.toInt_ofNat_of_lt (by omega)]
      exact_mod_cast Fin.lt_def.1 hij
    have hs := step (l i) (l j) (BitVec.ofNat 32 i.val) (BitVec.ofNat 32 j.val)
    by_cases hc : l j ≤ l i
    · have hp : (i :: L).Pairwise (· < ·) :=
        List.pairwise_cons.2 ⟨fun k hk => h1 k (List.mem_cons_of_mem _ hk), (List.pairwise_cons.1 h2).2⟩
      obtain ⟨c, hm, hmax, hfst, he⟩ := fold_from hn l L i hp
      have hs' : reducer_argmax_f32_i32 (F := Ideal) (l i, BitVec.ofNat 32 i.val) (l j, BitVec.ofNat 32 j.val) = (l i, BitVec.ofNat 32 i.val) := by
        rw [hs]
        rcases hc.lt_or_eq with q | q
        · rw [if_pos q, if_pos (Or.inl q)]
        · rw [if_neg (by rw [q]; exact lt_irrefl _), if_pos (Or.inr ⟨q.symm, hlt⟩), q]
      refine ⟨c, ?_, ?_, ?_, ?_⟩
      · rcases List.mem_cons.1 hm with rfl | q
        · simp
        · simp [q]
      · intro k hk
        rcases List.mem_cons.1 hk with rfl | hk
        · exact hmax _ (by simp)
        · rcases List.mem_cons.1 hk with rfl | hk
          · exact hc.trans (hmax i (by simp))
          · exact hmax k (by simp [hk])
      · intro k hk hkc
        rcases List.mem_cons.1 hk with rfl | hk
        · exact hfst _ (by simp) hkc
        · rcases List.mem_cons.1 hk with rfl | hk
          · exact hc.trans_lt (hfst i (by simp) (hij.trans hkc))
          · exact hfst k (by simp [hk]) hkc
      · rw [List.map_cons, List.foldl_cons, hs', he]
    · have hc' : l i < l j := not_le.1 hc
      obtain ⟨c, hm, hmax, hfst, he⟩ := fold_from hn l L j h2
      have hs' : reducer_argmax_f32_i32 (F := Ideal) (l i, BitVec.ofNat 32 i.val) (l j, BitVec.ofNat 32 j.val) = (l j, BitVec.ofNat 32 j.val) := by
        rw [hs, if_neg (not_lt.2 hc'.le), if_neg (by rintro (q | q); exacts [not_lt.2 hc'.le q, hc'.ne q.1])]
      refine ⟨c, List.mem_cons_of_mem _ hm, ?_, ?_, ?_⟩
      · intro k hk
        rcases List.mem_cons.1 hk with rfl | hk
        · exact hc'.le.trans (hmax j (by simp))
        · exact hmax k hk
      · intro k hk hkc
        rcases List.mem_cons.1 hk with rfl | hk
        · exact hc'.trans_le (hmax j (by simp))
        · exact hfst k hk hkc
      · rw [List.map_cons, List.foldl_cons, hs', he]

/-- Over all ten classes in order, from −∞ and index zero, the fold ends at the class the logits vote for. -/
theorem fold_all (l : Fin 10 → EReal) :
    ∃ c, IsVote l c ∧ ((List.finRange 10).map fun k : Fin 10 => (l k, BitVec.ofNat 32 k.val)).foldl (reducer_argmax_f32_i32 (F := Ideal)) (⊥, 0#32)
      = (l c, BitVec.ofNat 32 c.val) := by
  have hp : (List.finRange 10).Pairwise (· < ·) := List.pairwise_lt_finRange 10
  rw [List.finRange_succ] at hp ⊢
  obtain ⟨c, -, hmax, hfst, he⟩ := fold_from (by norm_num) l _ 0 hp
  have all : ∀ k : Fin 10, k ∈ (0 : Fin 10) :: (List.finRange 9).map Fin.succ := fun k => by
    rw [← List.finRange_succ]; exact List.mem_finRange k
  refine ⟨c, ⟨fun k => hmax k (all k), fun x hx => ?_⟩, ?_⟩
  · by_contra q
    exact absurd (hfst x (all x) (not_le.1 q)) (not_lt.2 (hx c))
  · rw [List.map_cons, List.foldl_cons, step, if_neg not_lt_bot, if_neg (by rintro (q | q); exacts [not_lt_bot q, by simpa using q.2])]
    exact he

/-- The pairs the arg-max folds over for member `q` on sample `r`, in order: the ten logits with their class numbers. -/
theorem fiber_eq {A B : ℕ} (L : (⟨3, ![A, B, 10]⟩ : Shape).Idx → EReal) (h : (⟨3, ![A, B, 10]⟩ : Shape).ReducesTo [2] ⟨2, ![A, B]⟩)
    (q : Fin A) (r : Fin B) :
    Host.argReduceFiber L (iotaInDim ⟨3, ![A, B, 10]⟩ 32 2) h (ix2 q r)
      = (List.finRange 10).map fun k : Fin 10 => (L (ix3 q r k), BitVec.ofNat 32 k.val) := by
  have key : (List.finRange (⟨3, ![A, B, 10]⟩ : Shape).numel).filter (fun n => h.drop ((⟨3, ![A, B, 10]⟩ : Shape).rowMajor.symm n) = ix2 q r)
      = (List.finRange 10).map fun k : Fin 10 => (⟨3, ![A, B, 10]⟩ : Shape).rowMajor (ix3 q r k) := by
    have val : ∀ k : Fin 10, ((⟨3, ![A, B, 10]⟩ : Shape).rowMajor (ix3 q r k)).val = (q.val * B + r.val) * 10 + k.val :=
      fun k => Shape.rowMajor_val_three _
    have up : ((List.finRange 10).map fun k : Fin 10 => (⟨3, ![A, B, 10]⟩ : Shape).rowMajor (ix3 q r k)).Pairwise (· < ·) := by
      rw [List.pairwise_map]
      exact (List.pairwise_lt_finRange 10).imp fun {a b} hab => Fin.lt_def.2 (by rw [val, val]; have := Fin.lt_def.1 hab; omega)
    have up' : ((List.finRange (⟨3, ![A, B, 10]⟩ : Shape).numel).filter (fun n => h.drop ((⟨3, ![A, B, 10]⟩ : Shape).rowMajor.symm n) = ix2 q r)).Pairwise (· < ·) :=
      (List.pairwise_lt_finRange _).filter _
    refine List.Perm.eq_of_pairwise (le := (· < ·)) (fun a b _ _ h1 h2 => absurd h1 (lt_asymm h2)) up' up ?_
    refine (List.perm_ext_iff_of_nodup (up'.imp fun h => h.ne) (up.imp fun h => h.ne)).2 fun n => ?_
    rw [List.mem_filter, List.mem_map]
    simp only [List.mem_finRange, true_and, decide_eq_true_eq]
    rw [h.fiber_r3_a2]
    constructor
    · rintro ⟨k, e⟩
      exact ⟨k, by rw [← Equiv.eq_symm_apply]; exact e⟩
    · rintro ⟨k, e⟩
      exact ⟨k, by rw [← e, Equiv.symm_apply_apply]; rfl⟩
  unfold Host.argReduceFiber
  rw [key, List.map_map]
  refine List.map_congr_left fun k _ => ?_
  simp only [Function.comp_apply, Equiv.symm_apply_apply]
  rfl

/-- The arg-max over the last axis of an array of logits, from −∞ and index zero, at `(q, r)`: the word of the class that row of ten logits votes
    for. -/
theorem argmax_apply {A B : ℕ} {u : Shape} (L : FVec Ideal ⟨3, ![A, B, 10]⟩ .f32) (h : (⟨3, ![A, B, 10]⟩ : Shape).ReducesTo [2] ⟨2, ![A, B]⟩)
    (v : u.Idx → EReal) (w : u.Idx → BitVec 32) (hv : ∀ i, v i = ⊥) (hw : ∀ i, w i = 0#32) (hu : 0 < u.numel) (q : Fin A) (r : Fin B) :
    ∃ c, IsVote (fun k => L (ix3 q r k)) c
      ∧ (Host.argReduce (F := Ideal) (φ := .f32) reducer_argmax_f32_i32 L (iotaInDim ⟨3, ![A, B, 10]⟩ 32 2) v w h hu (ix2 q r)).2
          = BitVec.ofNat 32 c.val := by
  obtain ⟨c, hc, he⟩ := fold_all fun k => L (ix3 q r k)
  refine ⟨c, hc, ?_⟩
  rw [Ideal.argReduce_eq_reduce2, Host.reduce2_eq_foldl_fiber, fiber_eq, hv, hw]
  exact congrArg Prod.snd he

/-- The vote of member `q` on sample `r`, as the program's arg-max has it: the word of the class the member's logits vote for. -/
theorem preds_apply (L : FVec Ideal S8x16384x10 .f32) (q : Fin 8) (r : Fin 16384) :
    ∃ c, IsVote (fun k => L (ix3 q r k)) c ∧ Ref.preds L (ix2 q r) = BitVec.ofNat 32 c.val := by
  have e0 : ∀ i, (constant S_ .f32 0xFF800000#32 : FVec Ideal S_ .f32) i = (⊥ : EReal) := fun i => by
    show Ideal.ofBits .f32 0xFF800000#32 = (⊥ : EReal)
    simp [Ideal.ofBits, Ideal.ieee]
  have e1 : ∀ i, constantI S_ 32 0#32 i = 0#32 := fun i => rfl
  exact argmax_apply L reducesTo_S8x16384x10_S8x16384_d2 _ _ e0 e1 h_S_ q r

end Cert.ReferenceIdeal.Argmax

end
-- ==== Proof.RefValue.lean ====
/-
  The reference's array: each vote adds one at its sample and class, so an entry counts the members that vote for the class.
-/
module

public import proofs.«01_k».proof.Proof.Argmax
public import Idealize.ShloMosaic.Lib.Routing.OpsPair
public import Idealize.ShloMosaic.Lib.Routing.Ops
public import Idealize.ShloMosaic.Lib.Pointwise.IndexBridge

@[expose] public section

noncomputable section

open Idealize.ShloMosaic
open scoped Classical

namespace Cert.ReferenceIdeal.Tally

open Cert.ReferenceIdeal Cert.ReferenceIdeal.Gen Cert.Committee Idealize.ShloMosaic.WordCmp

/-- The reference's logits are the members' logits. -/
theorem logits_apply (x : FVec Ideal S16384x128 .f32) (W : FVec Ideal S8x128x10 .f32) (b : FVec Ideal S8x10 .f32)
    (q : Fin 8) (r : Fin 16384) (k : Fin 10) :
    Ref.logits (F := Ideal) x W b (ix3 q r k) = logit x W b r q k := by
  pointwise [Ref.logits]
  unfold logit
  refine congrArg (· + b (ix2 q k)) (Finset.sum_congr rfl fun d _ => mul_comm _ _)

/-- Adding one, in words, at every position that lands counts the positions that land. -/
theorem count_fold (u : Shape) (p : u.Idx → Prop) [DecidablePred p] :
    (List.finRange u.numel).foldl (fun a n => if p (u.rowMajor.symm n) then IntOp.addi a 1#32 else a) 0#32
      = BitVec.ofNat 32 (∑ i : u.Idx, if p i then 1 else 0) := by
  have e : (fun (a : BitVec 32) (n : Fin u.numel) => if p (u.rowMajor.symm n) then IntOp.addi a 1#32 else a)
      = fun a n => IntOp.addi a (BitVec.ofNat 32 (if p (u.rowMajor.symm n) then 1 else 0)) := by
    funext a n
    by_cases h : p (u.rowMajor.symm n)
    · simp only [if_pos h]
    · simp only [if_neg h, IntOp.addi, BitVec.ofNat_eq_ofNat, BitVec.add_zero]
  rw [e, Routing.foldl_addi_ofNat _ _ (fun n => if p (u.rowMajor.symm n) then 1 else 0) (fun _ _ => rfl) _ 0 rfl, Nat.zero_add,
    ← Fin.sum_univ_def, Equiv.sum_comp u.rowMajor.symm fun i => if p i then 1 else 0]

/-- Ones scattered by addition into zeros, each update's two index words being its own row and the class `v` gives it: the entry at `(r, c)` is the
    number of updates in row `r` whose class is `c`. -/
theorem scatter_count {A B C : ℕ} (d : ScatterDims ⟨2, ![A, C]⟩ ⟨3, ![A, B, 2]⟩ ⟨2, ![A, B]⟩) (hiw : d.insertedWindowDims = [0, 1])
    (hsd : d.scatterDimsToOperandDims = [0, 1]) (hivd : d.indexVectorDim = 2) (z : IVec ⟨2, ![A, C]⟩ 32) (hz : ∀ i, z i = 0#32)
    (o : IVec ⟨2, ![A, B]⟩ 32) (ho : ∀ i, o i = 1#32) (P : IVec ⟨3, ![A, B, 2]⟩ 32) (v : Fin A → Fin B → Fin C)
    (h0 : ∀ a b, (P (ix3 a b 0)).toInt = (a.val : ℤ)) (h1 : ∀ a b, (P (ix3 a b 1)).toInt = ((v a b).val : ℤ)) (r : Fin A) (c : Fin C) :
    Host.scatter d IntOp.addi z P o (ix2 r c) = BitVec.ofNat 32 (∑ b : Fin B, if v r b = c then 1 else 0) := by
  rw [Routing.scatter_at]
  simp only [ho]
  rw [hz, count_fold ⟨2, ![A, B]⟩ fun i => d.resultIdx? i P = some (ix2 r c), sum_idx2]
  have lands : ∀ a b, d.resultIdx? (ix2 a b) P = some (ix2 r c) ↔ a = r ∧ v a b = c := fun a b => by
    rw [ix2_eq_valueIdx, ix2_eq_valueIdx, Routing.scatter_lands2 d hiw hsd hivd P a b r c, ← ix3_eq_valueIdx, ← ix3_eq_valueIdx, h0, h1,
      Nat.cast_inj, Nat.cast_inj, Fin.val_inj, Fin.val_inj]
  simp only [lands]
  rw [Finset.sum_eq_single r (fun a _ ha => by simp [ha]) (by simp)]
  simp

/-- A pair's first word is its sample's number. -/
theorem pairs_zero (P : IVec S8x16384 32) (r : Fin 16384) (q : Fin 8) : (Ref.pairs P (ix3 r q 0)).toInt = (r.val : ℤ) := by
  have e : Ref.pairs P (ix3 r q 0) = Scalar.select (IntOp.cmpi .slt (BitVec.ofNat 32 r.val) 0#32)
      (IntOp.addi (BitVec.ofNat 32 r.val) 16384#32) (BitVec.ofNat 32 r.val) := by
    pointwise [Ref.pairs, Ref.rows]
  have hr : r.val < 2 ^ (32 - 1) := lt_trans r.isLt (by norm_num)
  rw [e, Routing.wrap_of_lt _ _ (by rw [toNat_ofNat_of_lt (lt_two_pow_of_lt_half hr)]; exact hr), toInt_ofNat_of_lt hr]

/-- A pair's second word is its member's vote on its sample, when that is the word of a class. -/
theorem pairs_one (P : IVec S8x16384 32) (r : Fin 16384) (q : Fin 8) (c : Fin 10) (hP : P (ix2 q r) = BitVec.ofNat 32 c.val) :
    (Ref.pairs P (ix3 r q 1)).toInt = (c.val : ℤ) := by
  have e : Ref.pairs P (ix3 r q 1) = Scalar.select (IntOp.cmpi .slt (P (ix2 q r)) 0#32)
      (IntOp.addi (P (ix2 q r)) 10#32) (P (ix2 q r)) := by
    pointwise [Ref.pairs, Ref.classes]
  have hc : c.val < 2 ^ (32 - 1) := lt_trans c.isLt (by norm_num)
  rw [e, hP, Routing.wrap_of_lt _ _ (by rw [toNat_ofNat_of_lt (lt_two_pow_of_lt_half hc)]; exact hc), toInt_ofNat_of_lt hc]

/-- A count of members, taken as a word and then as a number of the extended reals, is the tally. -/
theorem sitofp_count (l : Fin 8 → Fin 10 → EReal) (v : Fin 8 → Fin 10) (hv : ∀ q, IsVote (l q) (v q)) (c : Fin 10) :
    (((BitVec.ofNat 32 (∑ q : Fin 8, if v q = c then 1 else 0)).toInt : ℝ) : EReal) = tally l c := by
  have small : (∑ q : Fin 8, if v q = c then 1 else 0) < 2 ^ (32 - 1) :=
    lt_of_le_of_lt (Finset.sum_le_card_nsmul _ _ 1 fun q _ => by split <;> simp) (by simp)
  have iff : ∀ q, IsVote (l q) c ↔ v q = c := fun q => ⟨(hv q).unique, fun h => h ▸ hv q⟩
  rw [toInt_ofNat_of_lt small, Int.cast_natCast, EReal.coe_natCast]
  unfold tally
  rw [Nat.cast_sum]
  refine Finset.sum_congr rfl fun q _ => ?_
  by_cases h : v q = c
  · rw [if_pos h, if_pos ((iff q).2 h), Nat.cast_one]
  · rw [if_neg h, if_neg fun t => h ((iff q).1 t), Nat.cast_zero]

/-- An entry of the reference's array is the tally of the members' logits. -/
theorem out_apply (x : FVec Ideal S16384x128 .f32) (W : FVec Ideal S8x128x10 .f32) (b : FVec Ideal S8x10 .f32) (r : Fin 16384) (c : Fin 10) :
    Ref.out (F := Ideal) x W b (ix2 r c) = tally (logit x W b r) c := by
  choose v hv hp using fun r q => Argmax.preds_apply (Ref.logits (F := Ideal) x W b) q r
  refine Eq.trans ?_ (sitofp_count (logit x W b r) (v r) (fun q => ?_) c)
  · refine congrArg (fun t : BitVec 32 => ((t.toInt : ℝ) : EReal)) ?_
    exact scatter_count scatter_S16384x10_S16384x8x2_S16384x8_n_01_01_2 rfl rfl rfl _ (fun _ => rfl) _ (fun _ => rfl) _ v
      (fun r q => pairs_zero _ r q) (fun r q => pairs_one _ r q _ (hp r q)) r c
  · have h := hv r q
    simp only [logits_apply] at h
    exact h

/-- The reference's array is the histogram of the committee's votes. -/
theorem out_eq_histogram (x : FVec Ideal S16384x128 .f32) (W : FVec Ideal S8x128x10 .f32) (b : FVec Ideal S8x10 .f32) :
    Ref.out (F := Ideal) x W b = histogram x W b :=
  funext fun i => (congrArg (Ref.out (F := Ideal) x W b) (ix2_eta i).symm).trans (out_apply x W b (i 0) (i 1))

end Cert.ReferenceIdeal.Tally

end
-- ==== Proof.lean ====
/-
  The proof of every claim about the kernel: each program's run, and the equation of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelArray
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- From memories that agree on the arguments, the kernel and the reference both end with the histogram of the committee's votes in their result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, KernelIdeal.Array.run m g, ?_⟩
  refine (θ_run (Cert.ReferenceIdeal.defs (F := Ideal)) _ _).mono (fun r h c => ?_) (Cert.ReferenceIdeal.Ref.run (F := Ideal) m' g')
  obtain ⟨hv, h0, h1, h2⟩ := h c
  refine ⟨hv.trans ?_, h0, h1, h2⟩
  rw [(hargs c).1, (hargs c).2.1, (hargs c).2.2]
  exact ReferenceIdeal.Tally.out_eq_histogram _ _ _

/-- Every claim: the three programs run to an end and leave their arguments and counters be, the kernel's two statements agree, and the kernel's
    result is the reference's. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => Cert.ReferenceIdeal.Ref.frame m ρ, trivial, algebraic⟩

end Cert.Proof

end
